-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_range [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_codes_in_range [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_codes_in_range [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_codes_in_range : Cert.Pre_codes_in_range.Facts),
    quiescent_Kernel (hKernel := hKernel)
    ∧ quiescent_KernelIdeal (hKernelIdeal := hKernelIdeal)
    ∧ quiescent_KernelIdeal_pre_codes_in_range (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal_pre_codes_in_range (hKernelIdeal := hKernelIdeal) (hReferenceIdeal := hReferenceIdeal) (hPre_codes_in_range := hPre_codes_in_range)
-- ==== Pre_codes_in_range.lean ====
abbrev S1x32768x2 : Shape := ⟨3, ![1, 32768, 2]⟩
abbrev S8x7168 : Shape := ⟨2, ![8, 7168]⟩
abbrev S7168 : Shape := ⟨1, ![7168]⟩
abbrev S_ : Shape := ⟨0, ![]⟩

class Facts : Prop where
  bcast_S_S1x32768x2 : S_.BroadcastsInDim S1x32768x2 (![] : Fin 0 → Fin S1x32768x2.rank)

variable [Facts]

def fn {F : FTy → Type} [FloatOps F] (main_arg0 : IVec S1x32768x2 32) (main_arg1 : FVec F S8x7168 .fp8e4m3) (main_arg2 : FVec F S7168 .f32) (main_arg3 : FVec F S7168 .f32) : IVec S1x32768x2 1 :=
  let main_c : IVec S_ 32 := constantI S_ 32 0#32
  let main_v0 : IVec S1x32768x2 32 := broadcastInDim S1x32768x2 ![] bcast_S_S1x32768x2 main_c
  let main_v1 : IVec S1x32768x2 1 := cmpi .sge main_arg0 main_v0
  let main_c_0 : IVec S_ 32 := constantI S_ 32 655360#32
  let main_v2 : IVec S1x32768x2 32 := broadcastInDim S1x32768x2 ![] bcast_S_S1x32768x2 main_c_0
  let main_v3 : IVec S1x32768x2 1 := cmpi .slt main_arg0 main_v2
  let main_v4 : IVec S1x32768x2 1 := andi main_v1 main_v3
  main_v4
-- ==== Kernel.lean ====
abbrev S1x32768x2 : Shape := ⟨3, ![1, 32768, 2]⟩
abbrev S8x7168 : Shape := ⟨2, ![8, 7168]⟩
abbrev S7168 : Shape := ⟨1, ![7168]⟩
abbrev S32768x2 : Shape := ⟨2, ![32768, 2]⟩
abbrev S2x32768 : Shape := ⟨2, ![2, 32768]⟩
abbrev S1x7168 : Shape := ⟨2, ![1, 7168]⟩
abbrev S32768x7168 : Shape := ⟨2, ![32768, 7168]⟩
abbrev S2x256 : Shape := ⟨2, ![2, 256]⟩
abbrev S256x7168 : Shape := ⟨2, ![256, 7168]⟩
abbrev S1x256 : Shape := ⟨2, ![1, 256]⟩
abbrev S8x256 : Shape := ⟨2, ![8, 256]⟩
abbrev S256x8 : Shape := ⟨2, ![256, 8]⟩
abbrev S1x32768x7168 : Shape := ⟨3, ![1, 32768, 7168]⟩

abbrev nBuf : Space → Nat
  | .hbm => 10
  | .vmem => 7
  | .smem => 0
  | _ => 0

abbrev bufTy : (tb : Table) → Fin (tcTables nBuf tb) → BufTy
  | .hbm, ⟨0, _⟩ => ⟨S1x32768x2, .i32⟩
  | .hbm, ⟨1, _⟩ => ⟨S8x7168, .fp8e4m3⟩
  | .hbm, ⟨2, _⟩ => ⟨S7168, .f32⟩
  | .hbm, ⟨3, _⟩ => ⟨S7168, .f32⟩
  | .hbm, ⟨4, _⟩ => ⟨S32768x2, .i32⟩
  | .hbm, ⟨5, _⟩ => ⟨S2x32768, .i32⟩
  | .hbm, ⟨6, _⟩ => ⟨S1x7168, .f32⟩
  | .hbm, ⟨7, _⟩ => ⟨S1x7168, .f32⟩
  | .hbm, ⟨8, _⟩ => ⟨S32768x7168, .bf16⟩
  | .hbm, ⟨9, _⟩ => ⟨S1x32768x7168, .bf16⟩
  | .local _ .vmem, ⟨0, _⟩ => ⟨S2x256, .i32⟩
  | .local _ .vmem, ⟨1, _⟩ => ⟨S2x256, .i32⟩
  | .local _ .vmem, ⟨2, _⟩ => ⟨S8x7168, .fp8e4m3⟩
  | .local _ .vmem, ⟨3, _⟩ => ⟨S1x7168, .f32⟩
  | .local _ .vmem, ⟨4, _⟩ => ⟨S1x7168, .f32⟩
  | .local _ .vmem, ⟨5, _⟩ => ⟨S256x7168, .bf16⟩
  | .local _ .vmem, ⟨6, _⟩ => ⟨S256x7168, .bf16⟩
  | _, _ => ⟨S1x32768x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x32768x2 : Shape := ⟨3, ![1, 32768, 2]⟩
abbrev S8x7168 : Shape := ⟨2, ![8, 7168]⟩
abbrev S7168 : Shape := ⟨1, ![7168]⟩
abbrev S4 : Shape := ⟨1, ![4]⟩
abbrev S1x32768x2x1 : Shape := ⟨4, ![1, 32768, 2, 1]⟩
abbrev S1x1x1x4 : Shape := ⟨4, ![1, 1, 1, 4]⟩
abbrev S1x32768x2x4 : Shape := ⟨4, ![1, 32768, 2, 4]⟩
abbrev S_ : Shape := ⟨0, ![]⟩
abbrev S1x32768x8 : Shape := ⟨3, ![1, 32768, 8]⟩
abbrev S1x32768x7168 : Shape := ⟨3, ![1, 32768, 7168]⟩
abbrev S1x1x7168 : Shape := ⟨3, ![1, 1, 7168]⟩

abbrev nBuf : Space → Nat
  | .hbm => 71
  | .vmem => 2
  | .smem => 0
  | _ => 0

abbrev bufTy : (tb : Table) → Fin (tcTables nBuf tb) → BufTy
  | .hbm, ⟨0, _⟩ => ⟨S1x32768x2, .i32⟩
  | .hbm, ⟨1, _⟩ => ⟨S8x7168, .fp8e4m3⟩
  | .hbm, ⟨2, _⟩ => ⟨S7168, .f32⟩
  | .hbm, ⟨3, _⟩ => ⟨S7168, .f32⟩
  | .hbm, ⟨4, _⟩ => ⟨S4, .i32⟩
  | .hbm, ⟨5, _⟩ => ⟨S4, .i32⟩
  | .hbm, ⟨6, _⟩ => ⟨S4, .i32⟩
  | .hbm, ⟨7, _⟩ => ⟨S1x32768x2x1, .i32⟩
  | .hbm, ⟨8, _⟩ => ⟨S1x1x1x4, .i32⟩
  | .hbm, ⟨9, _⟩ => ⟨S1x32768x2x4, .i32⟩
  | .hbm, ⟨10, _⟩ => ⟨S1x32768x2x4, .i32⟩
  | .hbm, ⟨11, _⟩ => ⟨S1x32768x2x4, .i32⟩
  | .hbm, ⟨12, _⟩ => ⟨S1x32768x2x1, .i32⟩
  | .hbm, ⟨13, _⟩ => ⟨S1x1x1x4, .i32⟩
  | .hbm, ⟨14, _⟩ => ⟨S1x32768x2x4, .i32⟩
  | .hbm, ⟨15, _⟩ => ⟨S1x32768x2x4, .i32⟩
  | .hbm, ⟨16, _⟩ => ⟨S1x32768x2x4, .i1⟩
  | .hbm, ⟨17, _⟩ => ⟨S1x32768x2x4, .i32⟩
  | .hbm, ⟨18, _⟩ => ⟨S1x32768x2x4, .i32⟩
  | .hbm, ⟨19, _⟩ => ⟨S1x32768x2x4, .i32⟩
  | .hbm, ⟨20, _⟩ => ⟨S_, .i32⟩
  | .hbm, ⟨21, _⟩ => ⟨S1x32768x2x4, .i32⟩
  | .hbm, ⟨22, _⟩ => ⟨S1x32768x2x4, .i1⟩
  | .hbm, ⟨23, _⟩ => ⟨S1x32768x2x4, .i1⟩
  | .hbm, ⟨24, _⟩ => ⟨S_, .i32⟩
  | .hbm, ⟨25, _⟩ => ⟨S1x32768x2x4, .i32⟩
  | .hbm, ⟨26, _⟩ => ⟨S1x32768x2x4, .i32⟩
  | .hbm, ⟨27, _⟩ => ⟨S1x32768x2x4, .i32⟩
  | .hbm, ⟨28, _⟩ => ⟨S1x1x1x4, .i32⟩
  | .hbm, ⟨29, _⟩ => ⟨S_, .i32⟩
  | .hbm, ⟨30, _⟩ => ⟨S1x1x1x4, .i32⟩
  | .hbm, ⟨31, _⟩ => ⟨S1x1x1x4, .i1⟩
  | .hbm, ⟨32, _⟩ => ⟨S_, .i32⟩
  | .hbm, ⟨33, _⟩ => ⟨S1x1x1x4, .i32⟩
  | .hbm, ⟨34, _⟩ => ⟨S1x1x1x4, .i32⟩
  | .hbm, ⟨35, _⟩ => ⟨S1x32768x2x4, .i32⟩
  | .hbm, ⟨36, _⟩ => ⟨S1x32768x2x4, .i32⟩
  | .hbm, ⟨37, _⟩ => ⟨S_, .i32⟩
  | .hbm, ⟨38, _⟩ => ⟨S1x32768x2x4, .i32⟩
  | .hbm, ⟨39, _⟩ => ⟨S1x32768x2x4, .i1⟩
  | .hbm, ⟨40, _⟩ => ⟨S_, .i32⟩
  | .hbm, ⟨41, _⟩ => ⟨S1x32768x2x4, .i32⟩
  | .hbm, ⟨42, _⟩ => ⟨S1x32768x2x4, .i1⟩
  | .hbm, ⟨43, _⟩ => ⟨S_, .i32⟩
  | .hbm, ⟨44, _⟩ => ⟨S1x1x1x4, .i32⟩
  | .hbm, ⟨45, _⟩ => ⟨S1x1x1x4, .i1⟩
  | .hbm, ⟨46, _⟩ => ⟨S1x32768x2x4, .i1⟩
  | .hbm, ⟨47, _⟩ => ⟨S1x32768x2x4, .i1⟩
  | .hbm, ⟨48, _⟩ => ⟨S1x32768x2x4, .i1⟩
  | .hbm, ⟨49, _⟩ => ⟨S1x32768x2x4, .i32⟩
  | .hbm, ⟨50, _⟩ => ⟨S1x32768x2x4, .i32⟩
  | .hbm, ⟨51, _⟩ => ⟨S1x32768x2x4, .i32⟩
  | .hbm, ⟨52, _⟩ => ⟨S1x1x1x4, .i32⟩
  | .hbm, ⟨53, _⟩ => ⟨S1x32768x2x4, .i32⟩
  | .hbm, ⟨54, _⟩ => ⟨S1x32768x2x4, .i32⟩
  | .hbm, ⟨55, _⟩ => ⟨S1x32768x2x4, .f32⟩
  | .hbm, ⟨56, _⟩ => ⟨S4, .f32⟩
  | .hbm, ⟨57, _⟩ => ⟨S1x1x1x4, .f32⟩
  | .hbm, ⟨58, _⟩ => ⟨S1x32768x2x4, .f32⟩
  | .hbm, ⟨59, _⟩ => ⟨S1x32768x2x4, .f32⟩
  | .hbm, ⟨60, _⟩ => ⟨S1x32768x8, .f32⟩
  | .hbm, ⟨61, _⟩ => ⟨S1x32768x8, .bf16⟩
  | .hbm, ⟨62, _⟩ => ⟨S8x7168, .bf16⟩
  | .hbm, ⟨63, _⟩ => ⟨S1x32768x7168, .f32⟩
  | .hbm, ⟨64, _⟩ => ⟨S1x1x7168, .f32⟩
  | .hbm, ⟨65, _⟩ => ⟨S1x32768x7168, .f32⟩
  | .hbm, ⟨66, _⟩ => ⟨S1x32768x7168, .f32⟩
  | .hbm, ⟨67, _⟩ => ⟨S1x1x7168, .f32⟩
  | .hbm, ⟨68, _⟩ => ⟨S1x32768x7168, .f32⟩
  | .hbm, ⟨69, _⟩ => ⟨S1x32768x7168, .f32⟩
  | .hbm, ⟨70, _⟩ => ⟨S1x32768x7168, .bf16⟩
  | .local _ .vmem, ⟨0, _⟩ => ⟨S8x7168, .fp8e4m3⟩
  | .local _ .vmem, ⟨1, _⟩ => ⟨S8x7168, .bf16⟩
  | _, _ => ⟨S1x32768x2, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_c_0 : Ref sig .tc := ⟨.hbm, 24, rfl⟩
abbrev main_call0_v15 : Ref sig .tc := ⟨.hbm, 25, rfl⟩
abbrev main_call0_v16 : Ref sig .tc := ⟨.hbm, 26, rfl⟩
abbrev main_v1 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_c_0 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_c_1 : Ref sig .tc := ⟨.hbm, 37, rfl⟩
abbrev main_call1_v7 : Ref sig .tc := ⟨.hbm, 38, rfl⟩
abbrev main_call1_v8 : Ref sig .tc := ⟨.hbm, 39, rfl⟩
abbrev main_call1_c_2 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_v15 : Ref sig .tc := ⟨.hbm, 48, rfl⟩
abbrev main_call1_v16 : Ref sig .tc := ⟨.hbm, 49, rfl⟩
abbrev main_call1_v17 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Digits.lean ====
/-
  The arithmetic of one code, apart from any array: a code below 655360 is read as four mixed-radix digits. One program
  reads them by floor quotients and remainders, the other by a shift, multiplications by 52429 and subtractions; both
  are the digits of the code's natural number, and so are the latents the two compute from them.
-/
module
public import Idealize.ShloMosaic.Lib.Pipeline.ValueKit
public import Idealize.ShloMosaic.Lib.Affine
public import Idealize.ShloMosaic.Lib.IdealHost
public import Idealize.ShloMosaic.Lib.WordCmp

@[expose] public section
set_option maxRecDepth 16384
noncomputable section
namespace Cert.Digits
open Idealize.ShloMosaic

/-- What one digit counts: the product of the level counts before it. -/
def stride : Fin 4 → Nat := ![1, 8, 40, 200]
/-- How many values one digit takes. -/
def level : Fin 4 → Nat := ![8, 5, 5, 5]
/-- Half the level count, rounded down: the digit's value for the latent zero. -/
def half : Fin 4 → Nat := ![4, 2, 2, 2]

/-- The `n`-th latent of the code `v`: its digit less the half width, over the half width. -/
def latent (n : Fin 4) (v : Nat) : EReal :=
  Ideal.div ((((v / stride n % level n : Nat) : Int) - (half n : Int) : Int) : ℝ) (((half n : Int) : ℝ) : EReal)

/-! ## The digits by floor quotient and remainder -/

/-- The floor quotient of two signed words: the truncated one, less one where the signs differ and something remains. -/
def floorDiv (x s : BitVec 32) : BitVec 32 :=
  Scalar.select
    (IntOp.andi
      (IntOp.cmpi .ne (if x = 0 then (0 : BitVec 32) else if x.msb = true then -1 else 1)
        (if s = 0 then (0 : BitVec 32) else if s.msb = true then -1 else 1))
      (IntOp.cmpi .ne (IntOp.remsi .host x s) 0#32))
    (IntOp.subi (IntOp.divsi .host x s) 1#32) (IntOp.divsi .host x s)

/-- The remainder of two signed words with the divisor's sign, a zero divisor read as one. -/
def floorMod (q l : BitVec 32) : BitVec 32 :=
  Scalar.select
    (IntOp.andi
      (IntOp.cmpi .ne
        (IntOp.cmpi .slt (IntOp.remsi .host q (Scalar.select (IntOp.cmpi .eq l 0#32) 1#32 l)) 0#32)
        (IntOp.cmpi .slt (Scalar.select (IntOp.cmpi .eq l 0#32) 1#32 l) 0#32))
      (IntOp.cmpi .ne (IntOp.remsi .host q (Scalar.select (IntOp.cmpi .eq l 0#32) 1#32 l)) 0#32))
    (IntOp.addi (IntOp.remsi .host q (Scalar.select (IntOp.cmpi .eq l 0#32) 1#32 l))
      (Scalar.select (IntOp.cmpi .eq l 0#32) 1#32 l))
    (IntOp.remsi .host q (Scalar.select (IntOp.cmpi .eq l 0#32) 1#32 l))

/-- A select on a bit that is not set takes its second value. -/
theorem select_neg {c : BitVec 1} {a b : BitVec 32} (h : ¬ c = 1#1) : Scalar.select c a b = b := if_neg h

/-- A bit that is not set is zero. -/
theorem bit_zero {c : BitVec 1} (h : ¬ c = 1#1) : c = 0#1 := by revert c; decide

/-- A nonnegative word divided by a positive literal is the natural quotient. -/
theorem toNat_divsi {x : BitVec 32} (hx : 2 * x.toNat < 2 ^ 32) (k : Nat) (hk : 0 < k) (hk' : 2 * k < 2 ^ 32) :
    (IntOp.divsi .host x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  have hd : IntOp.divsi .host x (BitVec.ofNat 32 k) = x.sdiv (BitVec.ofNat 32 k) :=
    if_neg (IntOp.not_corner_of_pos (by rw [BitVec.toInt_eq_toNat_of_lt (by omega)]; omega))
  rw [hd, BitVec.sdiv_eq, hm, hkm]
  show (x / BitVec.ofNat 32 k).toNat = _
  rw [BitVec.toNat_udiv, hkN]

/-- A literal is not the zero word where its natural is positive. -/
theorem ofNat_ne_zero {k : Nat} (hk : 0 < k) (hk' : 2 * k < 2 ^ 32) : BitVec.ofNat 32 k ≠ 0#32 := by
  intro h
  have := congrArg BitVec.toNat h
  rw [BitVec.toNat_ofNat, BitVec.toNat_ofNat] at this
  omega

/-- The floor quotient of a nonnegative word by a positive literal is the natural quotient. -/
theorem toNat_floorDiv {x : BitVec 32} (hx : 2 * x.toNat < 2 ^ 32) (k : Nat) (hk : 0 < k) (hk' : 2 * k < 2 ^ 32) :
    (floorDiv x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  have hc : ¬ IntOp.andi
      (IntOp.cmpi .ne (if x = 0 then (0 : BitVec 32) else if x.msb = true then -1 else 1)
        (if BitVec.ofNat 32 k = 0 then (0 : BitVec 32) else if (BitVec.ofNat 32 k).msb = true then -1 else 1))
      (IntOp.cmpi .ne (IntOp.remsi .host x (BitVec.ofNat 32 k)) 0#32) = 1#1 := by
    rw [IntOp.andi_eq_one, IntOp.cmpi_ne, IntOp.cmpi_ne]
    rintro ⟨h1, h2⟩
    by_cases h0 : x = 0
    · exact h2 ((IntOp.remsi_eq_zero_iff .host hx k hk hk').2 (by rw [h0]; exact Dvd.intro 0 rfl))
    · exact h1 (by rw [if_neg h0, if_neg (c := BitVec.ofNat 32 k = 0) (ofNat_ne_zero hk hk'), hm, hkm])
  rw [floorDiv, select_neg hc, toNat_divsi hx k hk hk']

/-- The floor remainder of a nonnegative word by a positive literal is the natural remainder. -/
theorem toNat_floorMod {x : BitVec 32} (hx : 2 * x.toNat < 2 ^ 32) (k : Nat) (hk : 0 < k) (hk' : 2 * k < 2 ^ 32) :
    (floorMod x (BitVec.ofNat 32 k)).toNat = x.toNat % k := by
  have hkN : (BitVec.ofNat 32 k).toNat = k := by rw [BitVec.toNat_ofNat]; omega
  have hl : Scalar.select (IntOp.cmpi .eq (BitVec.ofNat 32 k) 0#32) 1#32 (BitVec.ofNat 32 k) = BitVec.ofNat 32 k := by
    exact select_neg (by rw [IntOp.cmpi_eq]; exact ofNat_ne_zero hk hk')
  have hr := IntOp.toNat_remsi .host hx k hk hk'
  have hlt : x.toNat % k < k := Nat.mod_lt _ hk
  have h1 : IntOp.cmpi .slt (IntOp.remsi .host x (BitVec.ofNat 32 k)) 0#32 = 0#1 := by
    refine bit_zero fun h => ?_
    rw [IntOp.cmpi_slt, BitVec.toInt_eq_toNat_of_lt (by omega), hr] at h
    simp at h; omega
  have h2 : IntOp.cmpi .slt (BitVec.ofNat 32 k) 0#32 = 0#1 := by
    refine bit_zero fun h => ?_
    rw [IntOp.cmpi_slt, BitVec.toInt_eq_toNat_of_lt (by omega), hkN] at h
    simp at h; omega
  have hc : ¬ IntOp.andi
      (IntOp.cmpi .ne (IntOp.cmpi .slt (IntOp.remsi .host x (BitVec.ofNat 32 k)) 0#32)
        (IntOp.cmpi .slt (BitVec.ofNat 32 k) 0#32))
      (IntOp.cmpi .ne (IntOp.remsi .host x (BitVec.ofNat 32 k)) 0#32) = 1#1 := by
    rw [IntOp.andi_eq_one, h1, h2, IntOp.cmpi_ne]
    rintro ⟨h, -⟩
    exact h rfl
  rw [floorMod, hl, select_neg hc, hr]

/-- A small word less a small literal reads, signed, as the difference of their naturals. -/
theorem toInt_sub {d : BitVec 32} {h : Nat} (hd : d.toNat < 2 ^ 30) (hh : h < 2 ^ 30) :
    (IntOp.subi d (BitVec.ofNat 32 h)).toInt = (d.toNat : Int) - (h : Int) := by
  show (d - BitVec.ofNat 32 h).toInt = _
  rw [BitVec.toInt_sub, BitVec.toInt_eq_toNat_of_lt (by omega), WordCmp.toInt_ofNat_of_lt (by omega)]
  rw [Int.bmod_def]
  split <;> omega

/-- The latent by floor quotient and remainder: of a nonnegative code, digit `n` less the half width, over the half
    width, is `latent n` of the code's natural. -/
theorem latent_of_floor {x : BitVec 32} (hx : 2 * x.toNat < 2 ^ 32) (n : Fin 4) :
    Ideal.div
      ((IntOp.subi (floorMod (floorDiv x (BitVec.ofNat 32 (stride n))) (BitVec.ofNat 32 (level n)))
        (BitVec.ofNat 32 (half n))).toInt : ℝ)
      (((BitVec.ofNat 32 (half n)).toInt : ℝ) : EReal) = latent n x.toNat := by
  have hs : 0 < stride n ∧ 2 * stride n < 2 ^ 32 := by revert n; decide
  have hl : 0 < level n ∧ level n < 10 := by revert n; decide
  have hh : half n < 10 := by revert n; decide
  have hq := toNat_floorDiv hx (stride n) hs.1 hs.2
  have hq' : 2 * (floorDiv x (BitVec.ofNat 32 (stride n))).toNat < 2 ^ 32 := by
    rw [hq]
    have := Nat.div_le_self x.toNat (stride n)
    omega
  have hr := toNat_floorMod hq' (level n) hl.1 (by omega)
  rw [hq] at hr
  have hlt := Nat.mod_lt (x.toNat / stride n) hl.1
  rw [toInt_sub (by omega) (by omega), hr, WordCmp.toInt_ofNat_of_lt (by omega)]
  rfl

/-! ## The digits by shift and multiplication -/

/-- A word shifted right by three is its natural over eight. -/
theorem toNat_shift (x : BitVec 32) : (IntOp.shrui .vector x 3#32).toNat = x.toNat / 8 := by
  have h : IntOp.shrui .vector x 3#32 = x >>> (3#32) := if_pos (by decide)
  rw [h, BitVec.ushiftRight_eq', BitVec.toNat_ushiftRight, Nat.shiftRight_eq_div_pow]
  rfl

/-- Below 81920, multiplying by 52429 and shifting right by eighteen divides by five: the product stays a word. -/
theorem toNat_fifth {y : BitVec 32} (hy : y.toNat < 81920) :
    (IntOp.shrui .vector (IntOp.muli y 52429#32) 18#32).toNat = y.toNat / 5 := by
  have h : IntOp.shrui .vector (IntOp.muli y 52429#32) 18#32 = (y * 52429#32) >>> (18#32) := if_pos (by decide)
  rw [h, BitVec.ushiftRight_eq', BitVec.toNat_ushiftRight, Nat.shiftRight_eq_div_pow, BitVec.toNat_mul,
    show (52429#32 : BitVec 32).toNat = 52429 from rfl, show (18#32 : BitVec 32).toNat = 18 from rfl,
    Nat.mod_eq_of_lt (by omega)]
  omega

/-- A word less a literal multiple of its quotient by the same literal is the remainder. -/
theorem toNat_rest {x q : BitVec 32} {k : Nat} (hk : 0 < k) (hk' : k < 2 ^ 32) (hq : q.toNat = x.toNat / k) :
    (IntOp.subi x (IntOp.muli (BitVec.ofNat 32 k) q)).toNat = x.toNat % k := by
  show (x - BitVec.ofNat 32 k * q).toNat = _
  have hle := Nat.mul_div_le x.toNat k
  have hx := x.isLt
  have hp : (BitVec.ofNat 32 k * q).toNat = k * (x.toNat / k) := by
    rw [BitVec.toNat_mul, BitVec.toNat_ofNat, Nat.mod_eq_of_lt hk', hq, Nat.mod_eq_of_lt (by omega)]
  rw [BitVec.toNat_sub, hp]
  have hdm := Nat.div_add_mod x.toNat k
  omega

/-- The f32 pattern `0x3E800000` is one quarter. -/
theorem ofBits_quarter : Ideal.ofBits .f32 0x3E800000#32 = (((1 : ℝ) / 4 : ℝ) : EReal) := by
  simp [Ideal.ofBits, Ideal.ieee, -EReal.coe_mul]; norm_num

/-- The f32 pattern `0x3F000000` is one half. -/
theorem ofBits_half : Ideal.ofBits .f32 0x3F000000#32 = (((1 : ℝ) / 2 : ℝ) : EReal) := by
  simp [Ideal.ofBits, Ideal.ieee, -EReal.coe_mul]; norm_num

/-- The quotients a code is stripped to, digit by digit: `strip 0` drops the digit of eight levels by a shift, each
    later one a digit of five levels by a multiplication and a shift. -/
def strip (x : BitVec 32) : Fin 4 → BitVec 32
  | 0 => IntOp.shrui .vector x 3#32
  | 1 => IntOp.shrui .vector (IntOp.muli (IntOp.shrui .vector x 3#32) 52429#32) 18#32
  | 2 => IntOp.shrui .vector (IntOp.muli (IntOp.shrui .vector (IntOp.muli (IntOp.shrui .vector x 3#32) 52429#32) 18#32) 52429#32) 18#32
  | 3 => IntOp.shrui .vector (IntOp.muli (IntOp.shrui .vector (IntOp.muli (IntOp.shrui .vector (IntOp.muli
      (IntOp.shrui .vector x 3#32) 52429#32) 18#32) 52429#32) 18#32) 52429#32) 18#32

/-- The latents by shift and multiplication, as the kernel computes them from a code. -/
def shiftLatent (x : BitVec 32) : Fin 4 → EReal
  | 0 => ((IntOp.subi (IntOp.subi x (IntOp.muli 8#32 (strip x 0))) 4#32).toInt : ℝ) * Ideal.ofBits .f32 0x3E800000#32
  | 1 => ((IntOp.subi (IntOp.subi (strip x 0) (IntOp.muli 5#32 (strip x 1))) 2#32).toInt : ℝ) * Ideal.ofBits .f32 0x3F000000#32
  | 2 => ((IntOp.subi (IntOp.subi (strip x 1) (IntOp.muli 5#32 (strip x 2))) 2#32).toInt : ℝ) * Ideal.ofBits .f32 0x3F000000#32
  | 3 => ((IntOp.subi (IntOp.subi (strip x 2) (IntOp.muli 5#32 (strip x 3))) 2#32).toInt : ℝ) * Ideal.ofBits .f32 0x3F000000#32

/-- For a code below 655360 the four stripped quotients are the natural quotients by 8, 40, 200 and 1000. -/
theorem toNat_strip {x : BitVec 32} (hx : x.toNat < 655360) :
    (strip x 0).toNat = x.toNat / 8 ∧ (strip x 1).toNat = x.toNat / 40 ∧ (strip x 2).toNat = x.toNat / 200
      ∧ (strip x 3).toNat = x.toNat / 1000 := by
  have h0 : (strip x 0).toNat = x.toNat / 8 := toNat_shift x
  have h1 : (strip x 1).toNat = (strip x 0).toNat / 5 := toNat_fifth (y := strip x 0) (by omega)
  have h2 : (strip x 2).toNat = (strip x 1).toNat / 5 := toNat_fifth (y := strip x 1) (by omega)
  have h3 : (strip x 3).toNat = (strip x 2).toNat / 5 := toNat_fifth (y := strip x 2) (by omega)
  omega

/-- A digit of `k` levels, less the half width and times its inverse, is the digit's quotient by the half width. -/
theorem latent_step {d : BitVec 32} {h : Nat} {c : EReal} {e : Nat} (hd : d.toNat = e) (he : e < 2 ^ 30) (hh : h < 2 ^ 30)
    (hpos : 0 < h) (hc : c = ((1 / ((h : Int) : ℝ) : ℝ) : EReal)) :
    ((IntOp.subi d (BitVec.ofNat 32 h)).toInt : ℝ) * c
      = Ideal.div (((e : Int) - (h : Int) : Int) : ℝ) (((h : Int) : ℝ) : EReal) := by
  have h0 : ((h : Int) : ℝ) ≠ 0 := by
    rw [Int.cast_natCast, Nat.cast_ne_zero]; omega
  rw [toInt_sub (by omega) hh, hd, Ideal.div_coe h0, hc]

/-- The latents by shift and multiplication of a code below 655360 are `latent` of its natural. -/
theorem shiftLatent_eq {x : BitVec 32} (hx : x.toNat < 655360) (n : Fin 4) : shiftLatent x n = latent n x.toNat := by
  obtain ⟨h0, h1, h2, h3⟩ := toNat_strip hx
  match n with
  | 0 =>
    exact latent_step (h := 4) (e := x.toNat / 1 % 8)
      (by rw [toNat_rest (k := 8) (by decide) (by decide) h0, Nat.div_one]) (by omega) (by decide) (by decide)
      (by rw [ofBits_quarter]; norm_num)
  | 1 =>
    exact latent_step (h := 2) (e := x.toNat / 8 % 5)
      (by rw [toNat_rest (x := strip x 0) (k := 5) (by decide) (by decide) (by omega), h0]) (by omega) (by decide) (by decide)
      (by rw [ofBits_half]; norm_num)
  | 2 =>
    exact latent_step (h := 2) (e := x.toNat / 40 % 5)
      (by rw [toNat_rest (x := strip x 1) (k := 5) (by decide) (by decide) (by omega), h1]) (by omega) (by decide) (by decide)
      (by rw [ofBits_half]; norm_num)
  | 3 =>
    exact latent_step (h := 2) (e := x.toNat / 200 % 5)
      (by rw [toNat_rest (x := strip x 2) (k := 5) (by decide) (by decide) (by omega), h2]) (by omega) (by decide) (by decide)
      (by rw [ofBits_half]; norm_num)

end Cert.Digits
-- ==== Proof.KernelValue.lean ====
/-
  What the kernel computes, over the extended reals: the body's stored block at an index, the output array after the
  grid, and the result of the whole program as a function of its arguments.
-/
module
public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Digits

@[expose] public section
set_option maxRecDepth 16384
noncomputable section
namespace Cert.KernelIdeal.Value
open Idealize.ShloMosaic Idealize.ShloMosaic.TcCoe Idealize.SL.Sem
open Idealize.ShloMosaic.Pipeline (Dat)
open Cert.KernelIdeal Cert.KernelIdeal.Gen

variable (x : IVec S2x256 32)
/-- The first book's first latent of row `r`. -/
theorem pay8_apply (r : Fin 256) : (k0_pay8 x : FVec Ideal S1x256 .f32) (ix2 0 r) = Cert.Digits.shiftLatent (x (ix2 0 r)) 0 := by
  pointwise [k0_pay8, k0_pay4, k0_pay3, k0_pay2]
  rfl
/-- The first book's second latent. -/
theorem pay9_apply (r : Fin 256) : (k0_pay9 x : FVec Ideal S1x256 .f32) (ix2 0 r) = Cert.Digits.shiftLatent (x (ix2 0 r)) 1 := by
  pointwise [k0_pay9, k0_pay5, k0_pay4, k0_pay3, k0_pay2]
  rfl
/-- The first book's third latent. -/
theorem pay10_apply (r : Fin 256) : (k0_pay10 x : FVec Ideal S1x256 .f32) (ix2 0 r) = Cert.Digits.shiftLatent (x (ix2 0 r)) 2 := by
  pointwise [k0_pay10, k0_pay6, k0_pay5, k0_pay4, k0_pay3, k0_pay2]
  rfl
/-- The first book's fourth latent. -/
theorem pay11_apply (r : Fin 256) :
    (k0_pay11 (k0_pay6 (F := Ideal) x) (k0_pay7 (F := Ideal) x) : FVec Ideal S1x256 .f32) (ix2 0 r) = Cert.Digits.shiftLatent (x (ix2 0 r)) 3 := by
  pointwise [k0_pay11, k0_pay7, k0_pay6, k0_pay5, k0_pay4, k0_pay3, k0_pay2]
  rfl
/-- The second book's first latent. -/
theorem pay17_apply (r : Fin 256) : (k0_pay17 x : FVec Ideal S1x256 .f32) (ix2 0 r) = Cert.Digits.shiftLatent (x (ix2 1 r)) 0 := by
  pointwise [k0_pay17, k0_pay13, k0_pay12]
  rfl
/-- The second book's second latent. -/
theorem pay18_apply (r : Fin 256) : (k0_pay18 x : FVec Ideal S1x256 .f32) (ix2 0 r) = Cert.Digits.shiftLatent (x (ix2 1 r)) 1 := by
  pointwise [k0_pay18, k0_pay14, k0_pay13, k0_pay12]
  rfl
/-- The second book's third digit, before its half width is taken off. -/
theorem pay19_apply (r : Fin 256) : k0_pay19 x (ix2 0 r)
    = IntOp.subi (Cert.Digits.strip (x (ix2 1 r)) 1) (IntOp.muli 5#32 (Cert.Digits.strip (x (ix2 1 r)) 2)) := by
  pointwise [k0_pay19, k0_pay15, k0_pay14, k0_pay13, k0_pay12]
  rfl
/-- The second book's code stripped of three digits. -/
theorem pay15_apply (r : Fin 256) : k0_pay15 x (ix2 0 r) = Cert.Digits.strip (x (ix2 1 r)) 2 := by
  pointwise [k0_pay15, k0_pay14, k0_pay13, k0_pay12]
  rfl
/-- The second book's code stripped of four digits. -/
theorem pay16_apply (r : Fin 256) : k0_pay16 x (ix2 0 r) = Cert.Digits.strip (x (ix2 1 r)) 3 := by
  pointwise [k0_pay16, k0_pay15, k0_pay14, k0_pay13, k0_pay12]
  rfl

/-- The projection of one token: eight latents, four from each book's code, times the weight's column, scaled and shifted. -/
def token (x0 x1 : BitVec 32) (w : Fin 8 → EReal) (s b : EReal) : EReal :=
  (∑ k : Fin 8, Cert.Digits.shiftLatent (if k.val < 4 then x0 else x1) ⟨k.val % 4, by omega⟩ * w k) * s + b

variable (w : FVec Ideal S8x7168 .fp8e4m3) (s b : FVec Ideal S1x7168 .f32)
/-- What the body stores, at an index of its block: the projection of the row's two codes. -/
theorem pay1_apply (r : Fin 256) (d : Fin 7168) :
    (k0_pay1 (F := Ideal) (k0_pay8 x) (k0_pay9 x) (k0_pay10 x) (k0_pay11 (k0_pay6 (F := Ideal) x) (k0_pay7 (F := Ideal) x))
      (k0_pay15 x) (k0_pay16 x) (k0_pay17 x) (k0_pay18 x) (k0_pay19 x) 2#32 w s b (ix2 r d) : EReal)
      = token (x (ix2 0 r)) (x (ix2 1 r)) (fun k => w (ix2 k d)) (s (ix2 0 d)) (b (ix2 0 d)) := by
  pointwise [k0_pay1]
  rw [token]
  refine congrArg (· * s (ix2 0 d) + b (ix2 0 d)) (Finset.sum_congr rfl fun k _ => congrArg (· * w (ix2 k d)) ?_)
  fin_cases k
  · exact pay8_apply x r
  · exact pay9_apply x r
  · exact pay10_apply x r
  · exact pay11_apply x r
  · exact pay17_apply x r
  · exact pay18_apply x r
  · show FloatOps.sitofp FTy.f32 (IntOp.subi (k0_pay19 x (ix2 0 r)) 2#32) * Ideal.ofBits .f32 0x3F000000#32 = _
    rw [pay19_apply]; rfl
  · show FloatOps.sitofp FTy.f32 (IntOp.subi (IntOp.subi (k0_pay15 x (ix2 0 r)) (IntOp.muli 5#32 (k0_pay16 x (ix2 0 r)))) 2#32) * Ideal.ofBits .f32 0x3F000000#32 = _
    rw [pay15_apply, pay16_apply]; rfl

variable (m : (ℓ : Loc nD τ sig) → Buf (Elt Ideal) ℓ)

/-- Where every window's block lies at a grid point: the codes' and the output's at the point's own place, the rest at the origin. -/
theorem idx : ∀ t : Fin grid0.N,
    win0_0.index t 0 = 0 ∧ win0_0.index t 1 = t.val ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 := by decide +kernel

/-- The projection of every token, by row of the flattened output. -/
def projected (X : IVec S2x32768 32) (w : FVec Ideal S8x7168 .fp8e4m3) (s b : FVec Ideal S1x7168 .f32) : FVec Ideal S32768x7168 .bf16 :=
  fun i => token (X (ix2 0 (i 0))) (X (ix2 1 (i 0))) (fun k => w (ix2 k (i 1))) (s (ix2 0 (i 1))) (b (ix2 0 (i 1)))

/-- The block of codes under the identity reshape the body takes of it. -/
theorem pay20_eq (x0 : IVec S2x256 32) (x1 : FVec Ideal S8x7168 .fp8e4m3) (x2 x3 : FVec Ideal S1x7168 .f32) :
    k0_pay20 (F := Ideal) x0 x1 x2 x3 = x0 := by
  funext i
  idx_vars i
  pointwise [k0_pay20, k0_pay2]

/-- The grid has 128 points. -/
theorem N_eq : cfg0.N = 128 := by decide +kernel

/-- Row `r` of point `t`'s block is a row of the array. -/
theorem row_lt (t : Fin cfg0.N) (r : Fin 256) : t.val * 256 + r.val < 32768 := by
  have h := t.isLt
  have e := N_eq
  omega

/-- The codes' block at point `t` is 256 columns of the codes, from column `256 t`. -/
theorem block0 (c : Dev nD) (t : Fin cfg0.N) (a : Fin 2) (r : Fin 256) :
    iblk m c 0 t (ix2 a r) = V m c main_v1 (ix2 a ⟨t.val * 256 + r.val, row_lt t r⟩) := by
  obtain ⟨h0, h1, -⟩ := idx t
  blk_ext [iblk, h0, h1]

/-- The weight's block is the weight. -/
theorem block1 (c : Dev nD) (t : Fin cfg0.N) : iblk m c 1 t = V m c main_arg1 := by
  obtain ⟨-, -, h0, h1, -⟩ := idx t
  blk_ext! [iblk, h0, h1]

/-- The scale's block is the scale. -/
theorem block2 (c : Dev nD) (t : Fin cfg0.N) : iblk m c 2 t = V m c main_v2 := by
  obtain ⟨-, -, -, -, h0, h1, -⟩ := idx t
  blk_ext! [iblk, h0, h1]

/-- The bias's block is the bias. -/
theorem block3 (c : Dev nD) (t : Fin cfg0.N) : iblk m c 3 t = V m c main_v3 := by
  obtain ⟨-, -, -, -, -, -, h0, h1, -⟩ := idx t
  blk_ext! [iblk, h0, h1]

/-- Where an index of point `t`'s output block lies in the output. -/
theorem placed (t : Fin cfg0.N) (r : Fin 256) (d : Fin 7168) :
    ((View.whole main_v4).slice (win0_4.rect t)).emb (ix2 r d) = ix2 ⟨t.val * 256 + r.val, row_lt t r⟩ d := by
  obtain ⟨-, -, -, -, -, -, -, -, h0, h1⟩ := idx t
  blk_ext [h0, h1]

/-- The region's output array after the run: the projection of every token. -/
theorem final (c : Dev nD) : (dats m 0 c).arrAt 4 cfg0.N = projected (V m c main_v1) (V m c main_arg1) (V m c main_v2) (V m c main_v3) := by
  refine (dats m 0 c).arrAt_eq_of_covers 4 _ (by decide +kernel) fun t hf y => ?_
  blk_simp
  rw [after0_4]
  frame_out
  obtain ⟨r, d, rfl⟩ : ∃ (r : Fin 256) (d : Fin 7168), y = ix2 r d := ⟨y 0, y 1, by funext a; fin_cases a <;> rfl⟩
  rw [pay20_eq]
  refine (pay1_apply (iblk m c 0 t) (iblk m c 1 t) (iblk m c 2 t) (iblk m c 3 t) r d).trans ?_
  rw [placed, block0, block0, block1, block2, block3]
  rfl

/-- After the whole program, the result's buffer holds the region's output reshaped. -/
theorem out_buffer (c : Dev nD) : Pipeline.afterTail₀ cfgs (dats m) 0 (V0 m) [hostOps1] c main_v5
    = shapeCast S1x32768x7168 ((dats m 0 c).arrAt 4 cfg0.N : FVec Ideal S32768x7168 .bf16) shapeCasts_S32768x7168_S1x32768x7168 := by
  unfold Pipeline.afterTail₀
  simp only [hostOps1, List.flatten_cons, List.flatten_nil, List.append_nil, List.cons_append, List.nil_append]
  after_results_simp
  rw [
    show Pipeline.withArrays (cfgs 0).spec c (V0 m c) (fun w => (dats m 0 c).arrAt w (cfgs 0).N) (Proc.tc.devRef main_v4)
      = (dats m 0 c).arrAt 4 cfg0.N from Pipeline.withArrays_arr spec0 (by decide) c (V0 m c) _ 4]
  rfl
/-- The codes the region reads are the argument's, books first. -/
theorem codes_buffer (c : Dev nD) (a : Fin 2) (t : Fin 32768) :
    V m c main_v1 (ix2 a t) = (m (c.tc.loc main_arg0) : IVec S1x32768x2 32) (ix3 0 t a) := by
  show StableHlo.after (hostOps0 (F := Ideal)) (fun b => m (c, b)) (Proc.devRef .tc main_v1) _ = _
  unfold hostOps0
  after_results_simp
  pointwise

/-- The scale row the region reads is the argument's. -/
theorem scale_buffer (c : Dev nD) (d : Fin 7168) :
    V m c main_v2 (ix2 0 d) = (m (c.tc.loc main_arg2) : FVec Ideal S7168 .f32) (ix1 d) := by
  show StableHlo.after (hostOps0 (F := Ideal)) (fun b => m (c, b)) (Proc.devRef .tc main_v2) _ = _
  unfold hostOps0
  after_results_simp
  pointwise

/-- The bias row the region reads is the argument's. -/
theorem bias_buffer (c : Dev nD) (d : Fin 7168) :
    V m c main_v3 (ix2 0 d) = (m (c.tc.loc main_arg3) : FVec Ideal S7168 .f32) (ix1 d) := by
  show StableHlo.after (hostOps0 (F := Ideal)) (fun b => m (c, b)) (Proc.devRef .tc main_v3) _ = _
  unfold hostOps0
  after_results_simp
  pointwise

/-- The program's result, of its arguments: token `t`'s projection in column `d` at index `(0, t, d)`. -/
def result (C : IVec S1x32768x2 32) (w : FVec Ideal S8x7168 .fp8e4m3) (s b : FVec Ideal S7168 .f32) :
    FVec Ideal S1x32768x7168 .bf16 :=
  fun i => token (C (ix3 0 (i 1) 0)) (C (ix3 0 (i 1) 1)) (fun k => w (ix2 k (i 2))) (s (ix1 (i 2))) (b (ix1 (i 2)))

/-- The result's buffer holds `result` of the arguments. -/
theorem result_buffer (c : Dev nD) : Pipeline.afterTail₀ cfgs (dats m) 0 (V0 m) [hostOps1] c main_v5
    = result (m (c.tc.loc main_arg0)) (m (c.tc.loc main_arg1)) (m (c.tc.loc main_arg2)) (m (c.tc.loc main_arg3)) := by
  rw [out_buffer, final]
  funext i
  obtain ⟨a, t, d, rfl⟩ : ∃ (a : Fin 1) (t : Fin 32768) (d : Fin 7168), i = ix3 a t d :=
    ⟨i 0, i 1, i 2, by funext x; fin_cases x <;> rfl⟩
  have h : (shapeCast S1x32768x7168 (projected (V m c main_v1) (V m c main_arg1) (V m c main_v2) (V m c main_v3))
      shapeCasts_S32768x7168_S1x32768x7168) (ix3 a t d)
      = projected (V m c main_v1) (V m c main_arg1) (V m c main_v2) (V m c main_v3) (ix2 t d) := by
    generalize projected (V m c main_v1) (V m c main_arg1) (V m c main_v2) (V m c main_v3) = P
    pointwise
  rw [h]
  show token (V m c main_v1 (ix2 0 t)) (V m c main_v1 (ix2 1 t)) (fun k => V m c main_arg1 (ix2 k d))
    (V m c main_v2 (ix2 0 d)) (V m c main_v3 (ix2 0 d)) = _
  rw [codes_buffer, codes_buffer, scale_buffer, bias_buffer, V_main_arg1]
  rfl

/-- Every run of the kernel ends with `result` of its arguments in the result's buffer and its arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = result (m (c.tc.loc main_arg0)) (m (c.tc.loc main_arg1)) (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, h.2 c⟩) (θ_run_and (run_main m ρ) (unchanged m ρ))
  exact ((h.1 c).2 main_v5 (Pipeline.mem_restRefs_of main_v5 (by decide) (by decide))).trans (result_buffer m c)

end Cert.KernelIdeal.Value

end
-- ==== Proof.ReferenceValue.lean ====
/-
  What the reference computes, over the extended reals: its host operations' buffers one group at a time, the widening
  region's output, and the result at an index.
-/
module
public import proofs.«01_k».proof.Proof.Gen.ReferenceIdeal.Frame
public import Idealize.ShloMosaic.Lib.Pipeline.ValueKit
public import Idealize.ShloMosaic.Lib.Pointwise
public import Idealize.ShloMosaic.Lib.Claim
public import proofs.«01_k».proof.Proof.Digits

@[expose] public section
set_option maxRecDepth 16384
noncomputable section
namespace Cert.ReferenceIdeal.Value
open Idealize.ShloMosaic Idealize.ShloMosaic.TcCoe Idealize.SL.Sem
open Idealize.ShloMosaic.Pipeline (Dat)
open Cert.ReferenceIdeal Cert.ReferenceIdeal.Gen

/-- The four strides, as the constant the program holds. -/
def strides : IVec S4 32 := fun i => lit1 (S4.rowMajor i)
/-- The four level counts. -/
def levels : IVec S4 32 := fun i => lit0 (S4.rowMajor i)
/-- The four half widths. -/
def halves : IVec S4 32 := fun i => lit2 (S4.rowMajor i)

/-- The floor quotients of every code by the four strides. -/
def quotients (c : IVec S1x32768x2x1 32) (d : IVec S4 32) : IVec S1x32768x2x4 32 :=
  let s := broadcastInDim S1x1x1x4 ![3] bcast_S4_S1x1x1x4_3 d
  let cb := broadcastInDim S1x32768x2x4 ![0, 1, 2, 3] bcast_S1x32768x2x1_S1x32768x2x4_0_1_2_3 c
  let sb := broadcastInDim S1x32768x2x4 ![0, 1, 2, 3] bcast_S1x1x1x4_S1x32768x2x4_0_1_2_3 s
  select
    (andi
      (cmpi .ne (broadcastInDim S1x32768x2x4 ![0, 1, 2, 3] bcast_S1x32768x2x1_S1x32768x2x4_0_1_2_3 (signi c))
        (broadcastInDim S1x32768x2x4 ![0, 1, 2, 3] bcast_S1x1x1x4_S1x32768x2x4_0_1_2_3 (signi s)))
      (cmpi .ne (Host.remsi cb sb) (broadcastInDim S1x32768x2x4 ![] bcast_S_S1x32768x2x4 (constantI S_ 32 0#32))))
    (subi (Host.divsi cb sb) (broadcastInDim S1x32768x2x4 ![] bcast_S_S1x32768x2x4 (constantI S_ 32 1#32)))
    (Host.divsi cb sb)

/-- The remainders of the quotients by the four level counts. -/
def remainders (Q : IVec S1x32768x2x4 32) (d : IVec S4 32) : IVec S1x32768x2x4 32 :=
  let l := broadcastInDim S1x1x1x4 ![3] bcast_S4_S1x1x1x4_3 d
  let l' := select (cmpi .eq l (broadcastInDim S1x1x1x4 ![] bcast_S_S1x1x1x4 (constantI S_ 32 0#32)))
    (broadcastInDim S1x1x1x4 ![] bcast_S_S1x1x1x4 (constantI S_ 32 1#32)) l
  let lb := broadcastInDim S1x32768x2x4 ![0, 1, 2, 3] bcast_S1x1x1x4_S1x32768x2x4_0_1_2_3 l'
  let z := broadcastInDim S1x32768x2x4 ![] bcast_S_S1x32768x2x4 (constantI S_ 32 0#32)
  select
    (andi
      (cmpi .ne (cmpi .slt (Host.remsi Q lb) z)
        (broadcastInDim S1x32768x2x4 ![0, 1, 2, 3] bcast_S1x1x1x4_S1x32768x2x4_0_1_2_3
          (cmpi .slt l' (broadcastInDim S1x1x1x4 ![] bcast_S_S1x1x1x4 (constantI S_ 32 0#32)))))
      (cmpi .ne (Host.remsi Q lb) z))
    (addi (Host.remsi Q lb) lb) (Host.remsi Q lb)

/-- The latent of every code: its digits less the half widths, over the half widths, laid out eight to a token. -/
def latentsIn (D : IVec S1x32768x2x4 32) (h : IVec S4 32) : FVec Ideal S1x32768x8 .bf16 :=
  truncf .bf16 (shapeCast S1x32768x8 (Host.divf
    (sitofp .f32 (subi D (broadcastInDim S1x32768x2x4 ![0, 1, 2, 3] bcast_S1x1x1x4_S1x32768x2x4_0_1_2_3
      (broadcastInDim S1x1x1x4 ![3] bcast_S4_S1x1x1x4_3 h))))
    (broadcastInDim S1x32768x2x4 ![0, 1, 2, 3] bcast_S1x1x1x4_S1x32768x2x4_0_1_2_3
      (broadcastInDim S1x1x1x4 ![3] bcast_S4_S1x1x1x4_3 (sitofp .f32 h : FVec Ideal S4 .f32))) : FVec Ideal S1x32768x2x4 .f32)
    shapeCasts_S1x32768x2x4_S1x32768x8) bitsLt_bf16_f32

/-- The projection of the latents: their product with the widened weight, scaled and shifted column by column. -/
def projected (Z : FVec Ideal S1x32768x8 .bf16) (W : FVec Ideal S8x7168 .bf16) (s b : FVec Ideal S7168 .f32) :
    FVec Ideal S1x32768x7168 .bf16 :=
  truncf .bf16
    (addf
      (mulf (Host.dotGeneral dot_S1x32768x8_S8x7168_S1x32768x7168_2_0_01_1_n_n none Z W)
        (broadcastInDim S1x32768x7168 ![0, 1, 2] bcast_S1x1x7168_S1x32768x7168_0_1_2
          (broadcastInDim S1x1x7168 ![2] bcast_S7168_S1x1x7168_2 s)))
      (broadcastInDim S1x32768x7168 ![0, 1, 2] bcast_S1x1x7168_S1x32768x7168_0_1_2
        (broadcastInDim S1x1x7168 ![2] bcast_S7168_S1x1x7168_2 b))) bitsLt_bf16_f32

variable (m : (ℓ : Loc nD τ sig) → Buf (Elt Ideal) ℓ)

variable (W : Valuation τ sig (Elt Ideal))

/-- The remainders are what the third group of host operations leaves, from the quotients and the level counts it finds. -/
theorem after_2 : StableHlo.after (hostOps0_2 (F := Ideal)) W (Proc.devRef .tc main_v2)
    = remainders (W (Proc.devRef .tc main_v1)) (W (Proc.devRef .tc main_c)) := by
  unfold hostOps0_2
  after_results_simp
  simp -implicitDefEqProofs only [StableHlo.TRef.toBuf, StableHlo.TRef.ofBuf, cast_cast, cast_eq]
  rfl

/-- The latents are what the fourth group leaves, from the remainders and the half widths it finds. -/
theorem after_3 : StableHlo.after (hostOps0_3 (F := Ideal)) W (Proc.devRef .tc main_v12)
    = latentsIn (W (Proc.devRef .tc main_v2)) (W (Proc.devRef .tc main_c_1)) := by
  unfold hostOps0_3
  after_results_simp
  rfl

/-- The floor quotients are what the second group leaves, from the codes and the strides it finds. -/
theorem after_1 : StableHlo.after (hostOps0_1 (F := Ideal)) W (Proc.devRef .tc main_v1)
    = quotients (W (Proc.devRef .tc main_v0)) (W (Proc.devRef .tc main_c_0)) := by
  unfold hostOps0_1
  after_results_simp
  rfl

/-- The third group leaves the half widths as they are. -/
theorem after_2_halves : StableHlo.after (hostOps0_2 (F := Ideal)) W (Proc.devRef .tc main_c_1) = W (Proc.devRef .tc main_c_1) := by
  unfold hostOps0_2
  after_results_simp

/-- The second group leaves the half widths as they are. -/
theorem after_1_halves : StableHlo.after (hostOps0_1 (F := Ideal)) W (Proc.devRef .tc main_c_1) = W (Proc.devRef .tc main_c_1) := by
  unfold hostOps0_1
  after_results_simp

/-- The second group leaves the level counts as they are. -/
theorem after_1_levels : StableHlo.after (hostOps0_1 (F := Ideal)) W (Proc.devRef .tc main_c) = W (Proc.devRef .tc main_c) := by
  unfold hostOps0_1
  after_results_simp

/-- The first group lays the codes out with a last axis of length one. -/
theorem after_0 : StableHlo.after (hostOps0 (F := Ideal)) W (Proc.devRef .tc main_v0)
    = broadcastInDim S1x32768x2x1 ![0, 1, 2] bcast_S1x32768x2_S1x32768x2x1_0_1_2 (W (Proc.devRef .tc main_arg0) : IVec S1x32768x2 32) := by
  unfold hostOps0
  after_results_simp

/-- The first group writes the strides. -/
theorem after_0_strides : StableHlo.after (hostOps0 (F := Ideal)) W (Proc.devRef .tc main_c_0) = strides := by
  unfold hostOps0
  after_results_simp
  rfl

/-- The first group writes the level counts. -/
theorem after_0_levels : StableHlo.after (hostOps0 (F := Ideal)) W (Proc.devRef .tc main_c) = levels := by
  unfold hostOps0
  after_results_simp
  rfl

/-- The first group writes the half widths. -/
theorem after_0_halves : StableHlo.after (hostOps0 (F := Ideal)) W (Proc.devRef .tc main_c_1) = halves := by
  unfold hostOps0
  after_results_simp
  rfl

/-- The latents of the codes `C`: digits by floor quotient and remainder, less the half widths, over them. -/
def latents (C : IVec S1x32768x2 32) : FVec Ideal S1x32768x8 .bf16 :=
  latentsIn (remainders (quotients
    (broadcastInDim S1x32768x2x1 ![0, 1, 2] bcast_S1x32768x2_S1x32768x2x1_0_1_2 C) strides) levels) halves

/-- When the region is entered, the latents' buffer holds the latents of the codes argument. -/
theorem latents_buffer (c : Dev nD) : V m c main_v12 = latents (m (c.tc.loc main_arg0)) := by
  show StableHlo.after hostOps0_3 (StableHlo.after hostOps0_2 (StableHlo.after hostOps0_1
    (StableHlo.after hostOps0 fun b => m (c, b)))) (Proc.devRef .tc main_v12) = _
  rw [after_3, after_2, after_1, after_0, after_0_strides, after_1_levels, after_0_levels, after_2_halves,
    after_1_halves, after_0_halves]
  rfl

/-- After the whole program, the result's buffer holds the projection of the latents by the region's output. -/
theorem out_buffer (c : Dev nD) : Pipeline.afterTail₀ cfgs (dats m) 0 (V0 m) [hostOps1] c main_v21
    = projected (V m c main_v12) ((dats m 0 c).arrAt 1 cfg0.N) (V m c main_arg2) (V m c main_arg3) := by
  unfold Pipeline.afterTail₀
  simp only [hostOps1, List.flatten_cons, List.flatten_nil, List.append_nil, List.cons_append, List.nil_append]
  after_results_simp
  rw [Pipeline.withArrays_of_ne _ c (V0 m c) _ main_v12 (by exact (by decide : ∀ w, Pipeline.arrRef spec0 w ≠ main_v12)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    show Pipeline.withArrays (cfgs 0).spec c (V0 m c) (fun w => (dats m 0 c).arrAt w (cfgs 0).N) (Proc.tc.devRef main_v13)
      = (dats m 0 c).arrAt 1 cfg0.N from Pipeline.withArrays_arr spec0 (by decide) c (V0 m c) _ 1]
  rfl

/-- The region's output is its weight argument, every element in the wider format. -/
theorem widened (c : Dev nD) : (dats m 0 c).arrAt 1 cfg0.N = (extf .bf16 (V m c main_arg1 : FVec Ideal S8x7168 .fp8e4m3) bitsLt_fp8e4m3_bf16 : FVec Ideal S8x7168 .bf16) := by
  refine (dats m 0 c).arrAt_eq_of_after_last 1 t0_0 (by decide +kernel) _ fun j => ?_
  blk_simp
  rw [after0_1]
  frame_out
  have h0 : win0_0.index t0_0 0 = 0 := by decide +kernel
  have h1 : win0_0.index t0_0 1 = 0 := by decide +kernel
  blk_point [k0_pay1, iblk, V, h0, h1]

variable (Z : FVec Ideal S1x32768x8 .bf16) (Wt : FVec Ideal S8x7168 .bf16) (s b : FVec Ideal S7168 .f32)
/-- The projection at an index: the eight products summed, times the column's scale, plus its bias. -/
theorem projected_apply (a : Fin 1) (t : Fin 32768) (d : Fin 7168) :
    projected Z Wt s b (ix3 a t d) = (∑ k : Fin 8, Z (ix3 0 t k) * Wt (ix2 k d)) * s (ix1 d) + b (ix1 d) := by
  obtain rfl : a = 0 := Subsingleton.elim _ _
  pointwise [projected]

/-- The strides, element by element. -/
theorem strides_apply (n : Fin 4) : strides (ix1 n) = BitVec.ofNat 32 (Cert.Digits.stride n) := by
  fin_cases n <;> rfl
/-- The level counts, element by element. -/
theorem levels_apply (n : Fin 4) : levels (ix1 n) = BitVec.ofNat 32 (Cert.Digits.level n) := by
  fin_cases n <;> rfl
/-- The half widths, element by element. -/
theorem halves_apply (n : Fin 4) : halves (ix1 n) = BitVec.ofNat 32 (Cert.Digits.half n) := by
  fin_cases n <;> rfl

/-- The quotients at an index: the code's floor quotient by the stride. -/
theorem quotients_apply (C : IVec S1x32768x2 32) (a : Fin 1) (t : Fin 32768) (b : Fin 2) (n : Fin 4) :
    quotients (broadcastInDim S1x32768x2x1 ![0, 1, 2] bcast_S1x32768x2_S1x32768x2x1_0_1_2 C) strides (ix4 a t b n)
      = Cert.Digits.floorDiv (C (ix3 0 t b)) (strides (ix1 n)) := by
  pointwise [quotients]
  rfl

/-- The remainders at an index: the quotient's floor remainder by the level count. -/
theorem remainders_apply (Q : IVec S1x32768x2x4 32) (a : Fin 1) (t : Fin 32768) (b : Fin 2) (n : Fin 4) :
    remainders Q levels (ix4 a t b n) = Cert.Digits.floorMod (Q (ix4 a t b n)) (levels (ix1 n)) := by
  pointwise [remainders]
  rfl

/-- The latents at an index, the code being nonnegative: token `t`'s latent `k` is latent `k % 4` of its code `k / 4`. -/
theorem latents_apply (C : IVec S1x32768x2 32) (t : Fin 32768) (k : Fin 8)
    (hx : 2 * (C (ix3 0 t ⟨k.val / 4, by omega⟩)).toNat < 2 ^ 32) :
    latents C (ix3 0 t k)
      = Cert.Digits.latent ⟨k.val % 4, by omega⟩ (C (ix3 0 t ⟨k.val / 4, by omega⟩)).toNat := by
  pointwise [latents, latentsIn]
  rw [remainders_apply, quotients_apply, strides_apply, levels_apply, halves_apply]
  exact Cert.Digits.latent_of_floor hx _

/-- Every run of the reference ends with the projection of its arguments in the result's buffer and its arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = projected (latents (m (c.tc.loc main_arg0)))
              (extf .bf16 (m (c.tc.loc main_arg1) : FVec Ideal S8x7168 .fp8e4m3) bitsLt_fp8e4m3_bf16)
              (m (c.tc.loc main_arg2)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, h.2 c⟩) (θ_run_and (run_main m ρ) (unchanged m ρ))
  refine ((h.1 c).2 main_v21 (Pipeline.mem_restRefs_of main_v21 (by decide) (by decide))).trans ?_
  rw [out_buffer, widened, latents_buffer, V_main_arg1, V_main_arg2, V_main_arg3]

end Cert.ReferenceIdeal.Value

end
-- ==== Proof.Agreement.lean ====
/-
  The kernel's result and the reference's are the same function of arguments whose codes lie in range.
-/
module
public import proofs.«01_k».proof.Defs
public import proofs.«01_k».proof.Proof.Gen.Pre_codes_in_range
public import proofs.«01_k».proof.Proof.KernelValue
public import proofs.«01_k».proof.Proof.ReferenceValue

@[expose] public section
set_option maxRecDepth 16384
noncomputable section
namespace Cert.Agreement
open Idealize.ShloMosaic Idealize.SL.Sem

/-- Under the precondition every code's natural is below 655360. -/
theorem code_lt {C : IVec Cert.KernelIdeal.S1x32768x2 32} {w : FVec Ideal Cert.KernelIdeal.S8x7168 .fp8e4m3}
    {s b : FVec Ideal Cert.KernelIdeal.S7168 .f32} (h : Cert.Pre_codes_in_range.fn (F := Ideal) C w s b = fun _ => 1#1)
    (i : Cert.KernelIdeal.S1x32768x2.Idx) : (C i).toNat < 655360 := by
  have hi : IntOp.andi (IntOp.cmpi .sge (C i) 0#32) (IntOp.cmpi .slt (C i) 655360#32) = 1#1 := congrFun h i
  rw [IntOp.andi_eq_one, IntOp.cmpi_sge, IntOp.cmpi_slt] at hi
  obtain ⟨h0, h1⟩ := hi
  rw [show (0#32 : BitVec 32).toInt = 0 from rfl] at h0
  rw [show (655360#32 : BitVec 32).toInt = 655360 from rfl] at h1
  rw [BitVec.toInt_eq_toNat_cond] at h0 h1
  split at h1 <;> split at h0 <;> omega

/-- The kernel's result is the reference's projection of its latents, wherever every code is in range. -/
theorem result_eq (C : IVec Cert.KernelIdeal.S1x32768x2 32) (w : FVec Ideal Cert.KernelIdeal.S8x7168 .fp8e4m3)
    (s b : FVec Ideal Cert.KernelIdeal.S7168 .f32) (hC : ∀ i, (C i).toNat < 655360) :
    Cert.ReferenceIdeal.Value.projected (Cert.ReferenceIdeal.Value.latents C)
        (extf .bf16 (w : FVec Ideal Cert.ReferenceIdeal.S8x7168 .fp8e4m3) Cert.ReferenceIdeal.Gen.bitsLt_fp8e4m3_bf16) s b
      = Cert.KernelIdeal.Value.result C w s b := by
  funext i
  obtain ⟨a, t, d, rfl⟩ : ∃ (a : Fin 1) (t : Fin 32768) (d : Fin 7168), i = ix3 a t d :=
    ⟨i 0, i 1, i 2, by funext x; fin_cases x <;> rfl⟩
  rw [Cert.ReferenceIdeal.Value.projected_apply]
  show _ = (∑ k : Fin 8, Cert.Digits.shiftLatent (if k.val < 4 then C (ix3 0 t 0) else C (ix3 0 t 1)) ⟨k.val % 4, by omega⟩
    * w (ix2 k d)) * s (ix1 d) + b (ix1 d)
  refine congrArg (· * s (ix1 d) + b (ix1 d)) (Finset.sum_congr rfl fun k _ => congrArg (· * w (ix2 k d)) ?_)
  have hk := hC (ix3 0 t ⟨k.val / 4, by omega⟩)
  rw [Cert.ReferenceIdeal.Value.latents_apply C t k (by omega)]
  have he : (if k.val < 4 then C (ix3 0 t 0) else C (ix3 0 t 1)) = C (ix3 0 t ⟨k.val / 4, by omega⟩) := by
    fin_cases k <;> rfl
  rw [he, Cert.Digits.shiftLatent_eq hk]

/-- The kernel and the reference, run on the same arguments with every code in range, end with equal results. -/
theorem algebraic : Cert.algebraic_KernelIdeal_ReferenceIdeal_pre_codes_in_range := by
  intro m g m' g' hpre hagree
  refine ⟨fun c => Cert.KernelIdeal.Value.result (m (c.tc.loc Cert.KernelIdeal.main_arg0)) (m (c.tc.loc Cert.KernelIdeal.main_arg1))
    (m (c.tc.loc Cert.KernelIdeal.main_arg2)) (m (c.tc.loc Cert.KernelIdeal.main_arg3)), Cert.KernelIdeal.Value.run m g,
    (θ_run _ _ _).mono (fun r h c => ⟨(h c).1.trans ?_, (h c).2⟩) (Cert.ReferenceIdeal.Value.run m' g')⟩
  obtain ⟨h0, h1, h2, h3⟩ := hagree c
  rw [h0, h1, h2, h3]
  exact result_eq _ _ _ _ (code_lt (hpre c))

end Cert.Agreement

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_codes_in_range
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- Every claim: the frames are the generated runs, nothing was rewritten, and the value claim is `Agreement.algebraic`. -/
theorem claim : Cert.Claim := ⟨Cert.Kernel.Gen.facts, Cert.KernelIdeal.Gen.facts, Cert.ReferenceIdeal.Gen.facts, Cert.Pre_codes_in_range.Gen.facts,
  fun m g _ => Cert.Kernel.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  trivial,
  Cert.Agreement.algebraic⟩

end Cert.Proof

end
